-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sentinels [hPre_sentinels : Cert.Pre_sentinels.Facts] (m : (ℓ : Loc Cert.KernelIdeal.nD Cert.KernelIdeal.τ Cert.KernelIdeal.sig) → Buf (Elt Ideal) ℓ) : Prop :=
  ∀ c : Dev Cert.KernelIdeal.nD,
    (Cert.Pre_sentinels.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sentinels [hPre_sentinels : Cert.Pre_sentinels.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sentinels.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_sentinels [hKernelIdeal : Cert.KernelIdeal.Facts] [hPre_sentinels : Cert.Pre_sentinels.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sentinels m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sentinels [hReferenceIdeal : Cert.ReferenceIdeal.Facts] [hPre_sentinels : Cert.Pre_sentinels.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sentinels m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_sentinels [hKernelIdeal : Cert.KernelIdeal.Facts] [hReferenceIdeal : Cert.ReferenceIdeal.Facts] [hPre_sentinels : Cert.Pre_sentinels.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sentinels m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v145) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_sentinels : Cert.Pre_sentinels.Facts),
    quiescent_Kernel (hKernel := hKernel)
    ∧ quiescent_KernelIdeal (hKernelIdeal := hKernelIdeal)
    ∧ quiescent_KernelIdeal_pre_sentinels (hKernelIdeal := hKernelIdeal) (hPre_sentinels := hPre_sentinels)
    ∧ quiescent_ReferenceIdeal (hReferenceIdeal := hReferenceIdeal)
    ∧ quiescent_ReferenceIdeal_pre_sentinels (hReferenceIdeal := hReferenceIdeal) (hPre_sentinels := hPre_sentinels)
    ∧ preserves_Kernel_KernelIdeal
    ∧ algebraic_KernelIdeal_ReferenceIdeal_pre_sentinels (hKernelIdeal := hKernelIdeal) (hReferenceIdeal := hReferenceIdeal) (hPre_sentinels := hPre_sentinels)
-- ==== Pre_sentinels.lean ====
abbrev S2x1x96x96x96 : Shape := ⟨5, ![2, 1, 96, 96, 96]⟩
abbrev S10x8 : Shape := ⟨2, ![10, 8]⟩
abbrev S768x4096 : Shape := ⟨2, ![768, 4096]⟩
abbrev S768 : Shape := ⟨1, ![768]⟩
abbrev S_ : Shape := ⟨0, ![]⟩

class Facts : Prop where
  bcast_S_S10x8 : S_.BroadcastsInDim S10x8 (![] : Fin 0 → Fin S10x8.rank)
  reducesTo_S10x8_S_d0_1 : S10x8.ReducesTo [0, 1] S_
  h_S_ : 0 < S_.numel
  bcast_S_S768x4096 : S_.BroadcastsInDim S768x4096 (![] : Fin 0 → Fin S768x4096.rank)
  reducesTo_S768x4096_S_d0_1 : S768x4096.ReducesTo [0, 1] S_

variable [Facts]

def fn {F : FTy → Type} [FloatOps F] (main_arg0 : FVec F S2x1x96x96x96 .f32) (main_arg1 : FVec F S10x8 .f32) (main_arg2 : FVec F S10x8 .f32) (main_arg3 : FVec F S768x4096 .f32) (main_arg4 : FVec F S768 .f32) : IVec S_ 1 :=
  let main_cst : FVec F S_ .f32 := constant S_ .f32 0x447A0000#32
  let main_v0 : FVec F S10x8 .f32 := broadcastInDim S10x8 ![] bcast_S_S10x8 main_cst
  let main_v1 : IVec S10x8 1 := cmpf .oge main_arg2 main_v0
  let main_c : IVec S_ 1 := constantI S_ 1 1#1
  let main_v2 : IVec S_ 1 := (fun x v => Host.reduce IntOp.andi x v reducesTo_S10x8_S_d0_1 h_S_) main_v1 main_c
  let main_cst_0 : FVec F S_ .f32 := constant S_ .f32 0xFF800000#32
  let main_v3 : FVec F S768x4096 .f32 := broadcastInDim S768x4096 ![] bcast_S_S768x4096 main_cst_0
  let main_v4 : IVec S768x4096 1 := cmpf .ogt main_arg3 main_v3
  let main_cst_1 : FVec F S_ .f32 := constant S_ .f32 0x7F800000#32
  let main_v5 : FVec F S768x4096 .f32 := broadcastInDim S768x4096 ![] bcast_S_S768x4096 main_cst_1
  let main_v6 : IVec S768x4096 1 := cmpf .olt main_arg3 main_v5
  let main_v7 : IVec S768x4096 1 := andi main_v4 main_v6
  let main_c_2 : IVec S_ 1 := constantI S_ 1 1#1
  let main_v8 : IVec S_ 1 := (fun x v => Host.reduce IntOp.andi x v reducesTo_S768x4096_S_d0_1 h_S_) main_v7 main_c_2
  let main_v9 : IVec S_ 1 := andi main_v2 main_v8
  main_v9
-- ==== Kernel.lean ====
abbrev S2x1x96x96x96 : Shape := ⟨5, ![2, 1, 96, 96, 96]⟩
abbrev S10x8 : Shape := ⟨2, ![10, 8]⟩
abbrev S768x4096 : Shape := ⟨2, ![768, 4096]⟩
abbrev S768 : Shape := ⟨1, ![768]⟩
abbrev S2x96x96x96 : Shape := ⟨4, ![2, 96, 96, 96]⟩
abbrev S768x512x8 : Shape := ⟨3, ![768, 512, 8]⟩
abbrev S_ : Shape := ⟨0, ![]⟩
abbrev S768x512 : Shape := ⟨2, ![768, 512]⟩
abbrev S1x8 : Shape := ⟨2, ![1, 8]⟩
abbrev S8 : Shape := ⟨1, ![8]⟩
abbrev S768x1 : Shape := ⟨2, ![768, 1]⟩
abbrev S2x1728x512 : Shape := ⟨3, ![2, 1728, 512]⟩
abbrev S1x8x96x96 : Shape := ⟨4, ![1, 8, 96, 96]⟩
abbrev S1x144x512 : Shape := ⟨3, ![1, 144, 512]⟩
abbrev S8x96x96 : Shape := ⟨3, ![8, 96, 96]⟩
abbrev S8x12x8x12x8 : Shape := ⟨5, ![8, 12, 8, 12, 8]⟩
abbrev S12x12x8x8x8 : Shape := ⟨5, ![12, 12, 8, 8, 8]⟩
abbrev S144x512 : Shape := ⟨2, ![144, 512]⟩
abbrev S2x768x1728 : Shape := ⟨3, ![2, 768, 1728]⟩
abbrev S1x1728x512 : Shape := ⟨3, ![1, 1728, 512]⟩
abbrev S1x768x1728 : Shape := ⟨3, ![1, 768, 1728]⟩
abbrev S1728x512 : Shape := ⟨2, ![1728, 512]⟩
abbrev S768x1728 : Shape := ⟨2, ![768, 1728]⟩
abbrev S2x768x12x12x12 : Shape := ⟨5, ![2, 768, 12, 12, 12]⟩

abbrev nBuf : Space → Nat
  | .hbm => 19
  | .vmem => 15
  | .smem => 0
  | _ => 0

abbrev bufTy : (tb : Table) → Fin (tcTables nBuf tb) → BufTy
  | .hbm, ⟨0, _⟩ => ⟨S2x1x96x96x96, .f32⟩
  | .hbm, ⟨1, _⟩ => ⟨S10x8, .f32⟩
  | .hbm, ⟨2, _⟩ => ⟨S10x8, .f32⟩
  | .hbm, ⟨3, _⟩ => ⟨S768x4096, .f32⟩
  | .hbm, ⟨4, _⟩ => ⟨S768, .f32⟩
  | .hbm, ⟨5, _⟩ => ⟨S2x96x96x96, .f32⟩
  | .hbm, ⟨6, _⟩ => ⟨S768x512x8, .f32⟩
  | .hbm, ⟨7, _⟩ => ⟨S_, .f32⟩
  | .hbm, ⟨8, _⟩ => ⟨S768x512, .f32⟩
  | .hbm, ⟨9, _⟩ => ⟨S768x512, .bf16⟩
  | .hbm, ⟨10, _⟩ => ⟨S1x8, .f32⟩
  | .hbm, ⟨11, _⟩ => ⟨S8, .f32⟩
  | .hbm, ⟨12, _⟩ => ⟨S768x512, .f32⟩
  | .hbm, ⟨13, _⟩ => ⟨S768x512, .bf16⟩
  | .hbm, ⟨14, _⟩ => ⟨S768x1, .f32⟩
  | .hbm, ⟨15, _⟩ => ⟨S2x1728x512, .bf16⟩
  | .hbm, ⟨16, _⟩ => ⟨S2x1728x512, .bf16⟩
  | .hbm, ⟨17, _⟩ => ⟨S2x768x1728, .f32⟩
  | .hbm, ⟨18, _⟩ => ⟨S2x768x12x12x12, .f32⟩
  | .local _ .vmem, ⟨0, _⟩ => ⟨S1x8x96x96, .f32⟩
  | .local _ .vmem, ⟨1, _⟩ => ⟨S1x8x96x96, .f32⟩
  | .local _ .vmem, ⟨2, _⟩ => ⟨S1x144x512, .bf16⟩
  | .local _ .vmem, ⟨3, _⟩ => ⟨S1x144x512, .bf16⟩
  | .local _ .vmem, ⟨4, _⟩ => ⟨S1x144x512, .bf16⟩
  | .local _ .vmem, ⟨5, _⟩ => ⟨S1x144x512, .bf16⟩
  | .local _ .vmem, ⟨6, _⟩ => ⟨S1x1728x512, .bf16⟩
  | .local _ .vmem, ⟨7, _⟩ => ⟨S1x1728x512, .bf16⟩
  | .local _ .vmem, ⟨8, _⟩ => ⟨S1x1728x512, .bf16⟩
  | .local _ .vmem, ⟨9, _⟩ => ⟨S1x1728x512, .bf16⟩
  | .local _ .vmem, ⟨10, _⟩ => ⟨S768x512, .bf16⟩
  | .local _ .vmem, ⟨11, _⟩ => ⟨S768x512, .bf16⟩
  | .local _ .vmem, ⟨12, _⟩ => ⟨S768x1, .f32⟩
  | .local _ .vmem, ⟨13, _⟩ => ⟨S1x768x1728, .f32⟩
  | .local _ .vmem, ⟨14, _⟩ => ⟨S1x768x1728, .f32⟩
  | _, _ => ⟨S2x1x96x96x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v10 : Ref sig .tc := ⟨.hbm, 17, rfl⟩
abbrev main_v11 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨2, ![2, 12], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x96x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x144x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1728x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1728x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S768x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S768x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S768x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S1x768x1728 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]
-- ==== ReferenceIdeal.lean ====
abbrev S2x1x96x96x96 : Shape := ⟨5, ![2, 1, 96, 96, 96]⟩
abbrev S10x8 : Shape := ⟨2, ![10, 8]⟩
abbrev S768x4096 : Shape := ⟨2, ![768, 4096]⟩
abbrev S768 : Shape := ⟨1, ![768]⟩
abbrev S1769472x1 : Shape := ⟨2, ![1769472, 1]⟩
abbrev S_ : Shape := ⟨0, ![]⟩
abbrev S1x8 : Shape := ⟨2, ![1, 8]⟩
abbrev S8 : Shape := ⟨1, ![8]⟩
abbrev S1769472x8 : Shape := ⟨2, ![1769472, 8]⟩
abbrev S2x1x96x96x96x8 : Shape := ⟨6, ![2, 1, 96, 96, 96, 8]⟩
abbrev S2x96x96x96x8 : Shape := ⟨5, ![2, 96, 96, 96, 8]⟩
abbrev S2x8x96x96x96 : Shape := ⟨5, ![2, 8, 96, 96, 96]⟩
abbrev S2x8x12x8x12x8x12x8 : Shape := ⟨8, ![2, 8, 12, 8, 12, 8, 12, 8]⟩
abbrev S2x8x12x12x12x8x8x8 : Shape := ⟨8, ![2, 8, 12, 12, 12, 8, 8, 8]⟩
abbrev S2x12x12x12x8x8x8x8 : Shape := ⟨8, ![2, 12, 12, 12, 8, 8, 8, 8]⟩
abbrev S2x12x12x12x4096 : Shape := ⟨5, ![2, 12, 12, 12, 4096]⟩
abbrev S4096x768 : Shape := ⟨2, ![4096, 768]⟩
abbrev S2x12x12x12x768 : Shape := ⟨5, ![2, 12, 12, 12, 768]⟩
abbrev S1x1x1x1x768 : Shape := ⟨5, ![1, 1, 1, 1, 768]⟩
abbrev S2x768x12x12x12 : Shape := ⟨5, ![2, 768, 12, 12, 12]⟩

abbrev nBuf : Space → Nat
  | .hbm => 203
  | .vmem => 0
  | .smem => 0
  | _ => 0

abbrev hbmTy0_0 (i : Nat) : BufTy := match i % 128 with
  | 0 => ⟨S2x1x96x96x96, .f32⟩
  | 1 => ⟨S10x8, .f32⟩
  | 2 => ⟨S10x8, .f32⟩
  | 3 => ⟨S768x4096, .f32⟩
  | 4 => ⟨S768, .f32⟩
  | 5 => ⟨S1769472x1, .f32⟩
  | 6 => ⟨S_, .f32⟩
  | 7 => ⟨S1769472x1, .f32⟩
  | 8 => ⟨S1769472x1, .i1⟩
  | 9 => ⟨S1x8, .f32⟩
  | 10 => ⟨S8, .f32⟩
  | 11 => ⟨S1769472x8, .i1⟩
  | 12 => ⟨S1769472x8, .f32⟩
  | 13 => ⟨S1769472x8, .f32⟩
  | 14 => ⟨S1769472x8, .f32⟩
  | 15 => ⟨S_, .f32⟩
  | 16 => ⟨S1769472x8, .f32⟩
  | 17 => ⟨S1769472x8, .i1⟩
  | 18 => ⟨S_, .f32⟩
  | 19 => ⟨S1769472x8, .f32⟩
  | 20 => ⟨S1769472x8, .i1⟩
  | 21 => ⟨S1769472x8, .i1⟩
  | 22 => ⟨S1x8, .f32⟩
  | 23 => ⟨S8, .f32⟩
  | 24 => ⟨S1769472x8, .f32⟩
  | 25 => ⟨S1769472x8, .f32⟩
  | 26 => ⟨S_, .f32⟩
  | 27 => ⟨S1769472x8, .f32⟩
  | 28 => ⟨S1769472x8, .i1⟩
  | 29 => ⟨S_, .f32⟩
  | 30 => ⟨S1769472x8, .f32⟩
  | 31 => ⟨S1769472x8, .i1⟩
  | 32 => ⟨S1769472x8, .i1⟩
  | 33 => ⟨S1x8, .f32⟩
  | 34 => ⟨S8, .f32⟩
  | 35 => ⟨S1769472x8, .f32⟩
  | 36 => ⟨S1769472x8, .f32⟩
  | 37 => ⟨S_, .f32⟩
  | 38 => ⟨S1769472x8, .f32⟩
  | 39 => ⟨S1769472x8, .i1⟩
  | 40 => ⟨S_, .f32⟩
  | 41 => ⟨S1769472x8, .f32⟩
  | 42 => ⟨S1769472x8, .i1⟩
  | 43 => ⟨S1769472x8, .i1⟩
  | 44 => ⟨S1x8, .f32⟩
  | 45 => ⟨S8, .f32⟩
  | 46 => ⟨S1769472x8, .f32⟩
  | 47 => ⟨S1769472x8, .f32⟩
  | 48 => ⟨S_, .f32⟩
  | 49 => ⟨S1769472x8, .f32⟩
  | 50 => ⟨S1769472x8, .i1⟩
  | 51 => ⟨S_, .f32⟩
  | 52 => ⟨S1769472x8, .f32⟩
  | 53 => ⟨S1769472x8, .i1⟩
  | 54 => ⟨S1769472x8, .i1⟩
  | 55 => ⟨S1x8, .f32⟩
  | 56 => ⟨S8, .f32⟩
  | 57 => ⟨S1769472x8, .f32⟩
  | 58 => ⟨S1769472x8, .f32⟩
  | 59 => ⟨S_, .f32⟩
  | 60 => ⟨S1769472x8, .f32⟩
  | 61 => ⟨S1769472x8, .i1⟩
  | 62 => ⟨S_, .f32⟩
  | 63 => ⟨S1769472x8, .f32⟩
  | 64 => ⟨S1769472x8, .i1⟩
  | 65 => ⟨S1769472x8, .i1⟩
  | 66 => ⟨S1x8, .f32⟩
  | 67 => ⟨S8, .f32⟩
  | 68 => ⟨S1769472x8, .f32⟩
  | 69 => ⟨S1769472x8, .f32⟩
  | 70 => ⟨S_, .f32⟩
  | 71 => ⟨S1769472x8, .f32⟩
  | 72 => ⟨S1769472x8, .i1⟩
  | 73 => ⟨S_, .f32⟩
  | 74 => ⟨S1769472x8, .f32⟩
  | 75 => ⟨S1769472x8, .i1⟩
  | 76 => ⟨S1769472x8, .i1⟩
  | 77 => ⟨S1x8, .f32⟩
  | 78 => ⟨S8, .f32⟩
  | 79 => ⟨S1769472x8, .f32⟩
  | 80 => ⟨S1769472x8, .f32⟩
  | 81 => ⟨S_, .f32⟩
  | 82 => ⟨S1769472x8, .f32⟩
  | 83 => ⟨S1769472x8, .i1⟩
  | 84 => ⟨S_, .f32⟩
  | 85 => ⟨S1769472x8, .f32⟩
  | 86 => ⟨S1769472x8, .i1⟩
  | 87 => ⟨S1769472x8, .i1⟩
  | 88 => ⟨S1x8, .f32⟩
  | 89 => ⟨S8, .f32⟩
  | 90 => ⟨S1769472x8, .f32⟩
  | 91 => ⟨S1769472x8, .f32⟩
  | 92 => ⟨S_, .f32⟩
  | 93 => ⟨S1769472x8, .f32⟩
  | 94 => ⟨S1769472x8, .i1⟩
  | 95 => ⟨S1x8, .f32⟩
  | 96 => ⟨S8, .f32⟩
  | 97 => ⟨S1769472x8, .f32⟩
  | 98 => ⟨S1769472x8, .f32⟩
  | 99 => ⟨S_, .f32⟩
  | 100 => ⟨S1769472x8, .f32⟩
  | 101 => ⟨S1769472x8, .i1⟩
  | 102 => ⟨S1x8, .f32⟩
  | 103 => ⟨S8, .f32⟩
  | 104 => ⟨S1769472x8, .f32⟩
  | 105 => ⟨S1769472x8, .f32⟩
  | 106 => ⟨S_, .f32⟩
  | 107 => ⟨S1769472x8, .f32⟩
  | 108 => ⟨S1769472x8, .i1⟩
  | 109 => ⟨S_, .f32⟩
  | 110 => ⟨S1769472x8, .f32⟩
  | 111 => ⟨S1769472x8, .i1⟩
  | 112 => ⟨S1769472x8, .i1⟩
  | 113 => ⟨S1x8, .f32⟩
  | 114 => ⟨S8, .f32⟩
  | 115 => ⟨S1769472x8, .f32⟩
  | 116 => ⟨S1769472x8, .f32⟩
  | 117 => ⟨S_, .f32⟩
  | 118 => ⟨S1769472x8, .f32⟩
  | 119 => ⟨S1769472x8, .i1⟩
  | 120 => ⟨S_, .f32⟩
  | 121 => ⟨S1769472x8, .f32⟩
  | 122 => ⟨S1769472x8, .i1⟩
  | 123 => ⟨S1769472x8, .i1⟩
  | 124 => ⟨S1x8, .f32⟩
  | 125 => ⟨S8, .f32⟩
  | 126 => ⟨S1769472x8, .f32⟩
  | 127 => ⟨S1769472x8, .f32⟩
  | _ => ⟨S2x1x96x96x96, .f32⟩

abbrev hbmTy0_1 (i : Nat) : BufTy := match i % 128 with
  | 0 => ⟨S_, .f32⟩
  | 1 => ⟨S1769472x8, .f32⟩
  | 2 => ⟨S1769472x8, .i1⟩
  | 3 => ⟨S_, .f32⟩
  | 4 => ⟨S1769472x8, .f32⟩
  | 5 => ⟨S1769472x8, .i1⟩
  | 6 => ⟨S1769472x8, .i1⟩
  | 7 => ⟨S1x8, .f32⟩
  | 8 => ⟨S8, .f32⟩
  | 9 => ⟨S1769472x8, .f32⟩
  | 10 => ⟨S1769472x8, .f32⟩
  | 11 => ⟨S_, .f32⟩
  | 12 => ⟨S1769472x8, .f32⟩
  | 13 => ⟨S1769472x8, .i1⟩
  | 14 => ⟨S_, .f32⟩
  | 15 => ⟨S1769472x8, .f32⟩
  | 16 => ⟨S1769472x8, .i1⟩
  | 17 => ⟨S1769472x8, .i1⟩
  | 18 => ⟨S1x8, .f32⟩
  | 19 => ⟨S8, .f32⟩
  | 20 => ⟨S1769472x8, .f32⟩
  | 21 => ⟨S1769472x8, .f32⟩
  | 22 => ⟨S_, .f32⟩
  | 23 => ⟨S1769472x8, .f32⟩
  | 24 => ⟨S1769472x8, .i1⟩
  | 25 => ⟨S_, .f32⟩
  | 26 => ⟨S1769472x8, .f32⟩
  | 27 => ⟨S1769472x8, .i1⟩
  | 28 => ⟨S1769472x8, .i1⟩
  | 29 => ⟨S1x8, .f32⟩
  | 30 => ⟨S8, .f32⟩
  | 31 => ⟨S1769472x8, .f32⟩
  | 32 => ⟨S1769472x8, .f32⟩
  | 33 => ⟨S_, .f32⟩
  | 34 => ⟨S1769472x8, .f32⟩
  | 35 => ⟨S1769472x8, .i1⟩
  | 36 => ⟨S_, .f32⟩
  | 37 => ⟨S1769472x8, .f32⟩
  | 38 => ⟨S1769472x8, .i1⟩
  | 39 => ⟨S1769472x8, .i1⟩
  | 40 => ⟨S1x8, .f32⟩
  | 41 => ⟨S8, .f32⟩
  | 42 => ⟨S1769472x8, .f32⟩
  | 43 => ⟨S1769472x8, .f32⟩
  | 44 => ⟨S_, .f32⟩
  | 45 => ⟨S1769472x8, .f32⟩
  | 46 => ⟨S1769472x8, .i1⟩
  | 47 => ⟨S_, .f32⟩
  | 48 => ⟨S1769472x8, .f32⟩
  | 49 => ⟨S1769472x8, .i1⟩
  | 50 => ⟨S1769472x8, .i1⟩
  | 51 => ⟨S1x8, .f32⟩
  | 52 => ⟨S8, .f32⟩
  | 53 => ⟨S1769472x8, .f32⟩
  | 54 => ⟨S1769472x8, .f32⟩
  | 55 => ⟨S_, .f32⟩
  | 56 => ⟨S1769472x8, .f32⟩
  | 57 => ⟨S1769472x8, .i1⟩
  | 58 => ⟨S1x8, .f32⟩
  | 59 => ⟨S8, .f32⟩
  | 60 => ⟨S1769472x8, .f32⟩
  | 61 => ⟨S1769472x8, .f32⟩
  | 62 => ⟨S2x1x96x96x96x8, .f32⟩
  | 63 => ⟨S2x96x96x96x8, .f32⟩
  | 64 => ⟨S2x8x96x96x96, .f32⟩
  | 65 => ⟨S2x8x12x8x12x8x12x8, .f32⟩
  | 66 => ⟨S2x8x12x12x12x8x8x8, .f32⟩
  | 67 => ⟨S2x12x12x12x8x8x8x8, .f32⟩
  | 68 => ⟨S2x12x12x12x4096, .f32⟩
  | 69 => ⟨S4096x768, .f32⟩
  | 70 => ⟨S2x12x12x12x768, .f32⟩
  | 71 => ⟨S1x1x1x1x768, .f32⟩
  | 72 => ⟨S2x12x12x12x768, .f32⟩
  | 73 => ⟨S2x12x12x12x768, .f32⟩
  | 74 => ⟨S2x768x12x12x12, .f32⟩
  | _ => ⟨S2x1x96x96x96, .f32⟩

abbrev hbmTy (i : Nat) : BufTy := match i / 128 with
  | 0 => hbmTy0_0 i
  | 1 => hbmTy0_1 i
  | _ => ⟨S2x1x96x96x96, .f32⟩

abbrev bufTy : (tb : Table) → Fin (tcTables nBuf tb) → BufTy
  | .hbm, ⟨i, _⟩ => hbmTy i
  | _, _ => ⟨S2x1x96x96x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call1_v0 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call2_v0 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_cst_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call3_v0 : Ref sig .tc := ⟨.hbm, 46, rfl⟩
abbrev main_v29 : Ref sig .tc := ⟨.hbm, 47, rfl⟩
abbrev main_cst_6 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call4_v0 : Ref sig .tc := ⟨.hbm, 57, rfl⟩
abbrev main_v37 : Ref sig .tc := ⟨.hbm, 58, rfl⟩
abbrev main_cst_8 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call5_v0 : Ref sig .tc := ⟨.hbm, 68, rfl⟩
abbrev main_v45 : Ref sig .tc := ⟨.hbm, 69, rfl⟩
abbrev main_cst_10 : Ref sig .tc := ⟨.hbm, 70, rfl⟩
abbrev main_v46 : Ref sig .tc := ⟨.hbm, 71, rfl⟩
abbrev main_v47 : Ref sig .tc := ⟨.hbm, 72, rfl⟩
abbrev main_cst_11 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_call6_v0 : Ref sig .tc := ⟨.hbm, 79, rfl⟩
abbrev main_v53 : Ref sig .tc := ⟨.hbm, 80, rfl⟩
abbrev main_cst_12 : Ref sig .tc := ⟨.hbm, 81, rfl⟩
abbrev main_v54 : Ref sig .tc := ⟨.hbm, 82, rfl⟩
abbrev main_v55 : Ref sig .tc := ⟨.hbm, 83, rfl⟩
abbrev main_cst_13 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call7_v0 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_call8_v0 : Ref sig .tc := ⟨.hbm, 97, rfl⟩
abbrev main_v66 : Ref sig .tc := ⟨.hbm, 98, rfl⟩
abbrev main_cst_15 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_call9_v0 : Ref sig .tc := ⟨.hbm, 104, rfl⟩
abbrev main_v71 : Ref sig .tc := ⟨.hbm, 105, rfl⟩
abbrev main_cst_16 : Ref sig .tc := ⟨.hbm, 106, rfl⟩
abbrev main_v72 : Ref sig .tc := ⟨.hbm, 107, rfl⟩
abbrev main_v73 : Ref sig .tc := ⟨.hbm, 108, rfl⟩
abbrev main_cst_17 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call10_v0 : Ref sig .tc := ⟨.hbm, 115, rfl⟩
abbrev main_v79 : Ref sig .tc := ⟨.hbm, 116, rfl⟩
abbrev main_cst_18 : Ref sig .tc := ⟨.hbm, 117, rfl⟩
abbrev main_v80 : Ref sig .tc := ⟨.hbm, 118, rfl⟩
abbrev main_v81 : Ref sig .tc := ⟨.hbm, 119, rfl⟩
abbrev main_cst_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_call11_v0 : Ref sig .tc := ⟨.hbm, 126, rfl⟩
abbrev main_v87 : Ref sig .tc := ⟨.hbm, 127, rfl⟩
abbrev main_cst_20 : Ref sig .tc := ⟨.hbm, 128, rfl⟩
abbrev main_v88 : Ref sig .tc := ⟨.hbm, 129, rfl⟩
abbrev main_v89 : Ref sig .tc := ⟨.hbm, 130, rfl⟩
abbrev main_cst_21 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call12_v0 : Ref sig .tc := ⟨.hbm, 137, rfl⟩
abbrev main_v95 : Ref sig .tc := ⟨.hbm, 138, rfl⟩
abbrev main_cst_22 : Ref sig .tc := ⟨.hbm, 139, rfl⟩
abbrev main_v96 : Ref sig .tc := ⟨.hbm, 140, rfl⟩
abbrev main_v97 : Ref sig .tc := ⟨.hbm, 141, rfl⟩
abbrev main_cst_23 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_call13_v0 : Ref sig .tc := ⟨.hbm, 148, rfl⟩
abbrev main_v103 : Ref sig .tc := ⟨.hbm, 149, rfl⟩
abbrev main_cst_24 : Ref sig .tc := ⟨.hbm, 150, rfl⟩
abbrev main_v104 : Ref sig .tc := ⟨.hbm, 151, rfl⟩
abbrev main_v105 : Ref sig .tc := ⟨.hbm, 152, rfl⟩
abbrev main_cst_25 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_call14_v0 : Ref sig .tc := ⟨.hbm, 159, rfl⟩
abbrev main_v111 : Ref sig .tc := ⟨.hbm, 160, rfl⟩
abbrev main_cst_26 : Ref sig .tc := ⟨.hbm, 161, rfl⟩
abbrev main_v112 : Ref sig .tc := ⟨.hbm, 162, rfl⟩
abbrev main_v113 : Ref sig .tc := ⟨.hbm, 163, rfl⟩
abbrev main_cst_27 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_call15_v0 : Ref sig .tc := ⟨.hbm, 170, rfl⟩
abbrev main_v119 : Ref sig .tc := ⟨.hbm, 171, rfl⟩
abbrev main_cst_28 : Ref sig .tc := ⟨.hbm, 172, rfl⟩
abbrev main_v120 : Ref sig .tc := ⟨.hbm, 173, rfl⟩
abbrev main_v121 : Ref sig .tc := ⟨.hbm, 174, rfl⟩
abbrev main_cst_29 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_call16_v0 : Ref sig .tc := ⟨.hbm, 181, rfl⟩
abbrev main_v127 : Ref sig .tc := ⟨.hbm, 182, rfl⟩
abbrev main_cst_30 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_call17_v0 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩

abbrev nD : Nat := 1
abbrev τ : Topo := Topo.v7x

variable {F : FTy → Type} [FloatOps F]
-- ==== Proof.Run.lean ====
/- The launch of the kernel program at exact arithmetic: what its result array holds when it ends. -/
module

public import proofs.«01_k».proof.Proof.Gen.KernelIdeal.Frame

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends, and in every final state the result array holds what the last
    segment boundary records for it while the five argument arrays are as they were at the start. -/
theorem run : θ_run defs (onTc (τ := τ) (main (F := F))) ⟨m, fun _ => 0, ρ⟩ (fun r => ∀ c : Dev nD,
      r.2.mem ((c.tc : Thread nD τ).loc main_v11) = W4 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨h c _ (mem_uc main_v11 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.Hand
-- ==== Proof.Consts.lean ====
/- The bit patterns of the thresholds, read as extended reals. -/
module

public import Idealize.ShloMosaic.Lib.Pointwise

@[expose] public section

noncomputable section

namespace Cert.Hand

open Idealize.ShloMosaic

/-- −1000. -/
theorem c_neg1000 : Ideal.ofBits .f32 0xC47A0000#32 = -1000 := by
  simp [Ideal.ofBits, Ideal.ieee, -EReal.coe_mul]; norm_num; rfl
/-- −75. -/
theorem c_neg75 : Ideal.ofBits .f32 0xC2960000#32 = -75 := by
  simp [Ideal.ofBits, Ideal.ieee, -EReal.coe_mul]; norm_num; rfl
/-- 15. -/
theorem c_15 : Ideal.ofBits .f32 0x41700000#32 = 15 := by
  simp [Ideal.ofBits, Ideal.ieee, -EReal.coe_mul]; norm_num; rfl
/-- 25. -/
theorem c_25 : Ideal.ofBits .f32 0x41C80000#32 = 25 := by
  simp [Ideal.ofBits, Ideal.ieee, -EReal.coe_mul]; norm_num; rfl
/-- 40. -/
theorem c_40 : Ideal.ofBits .f32 0x42200000#32 = 40 := by
  simp [Ideal.ofBits, Ideal.ieee, -EReal.coe_mul]; norm_num; rfl
/-- 50. -/
theorem c_50 : Ideal.ofBits .f32 0x42480000#32 = 50 := by
  simp [Ideal.ofBits, Ideal.ieee, -EReal.coe_mul]; norm_num; rfl
/-- 200. -/
theorem c_200 : Ideal.ofBits .f32 0x43480000#32 = 200 := by
  simp [Ideal.ofBits, Ideal.ieee, -EReal.coe_mul]; norm_num; rfl
/-- 1000. -/
theorem c_1000 : Ideal.ofBits .f32 0x447A0000#32 = 1000 := by
  simp [Ideal.ofBits, Ideal.ieee, -EReal.coe_mul]; norm_num; rfl
/-- The infinity below. -/
theorem c_bot : Ideal.ofBits .f32 0xFF800000#32 = ⊥ := by
  simp [Ideal.ofBits, Ideal.ieee]
/-- The infinity above. -/
theorem c_top : Ideal.ofBits .f32 0x7F800000#32 = ⊤ := by
  simp [Ideal.ofBits, Ideal.ieee]

end Cert.Hand
-- ==== Proof.Pre.lean ====
/- What the precondition says of the arguments, element by element. -/
module

public import proofs.«01_k».proof.Proof.Gen.Pre_sentinels
public import proofs.«01_k».proof.Proof.Consts
public import Idealize.ShloMosaic.Lib.ReduceAll
public import Idealize.ShloMosaic.Lib.Pointwise

@[expose] public section

set_option maxRecDepth 16384

noncomputable section

namespace Cert.Pre_sentinels.Hand

open Cert.Pre_sentinels Cert.Pre_sentinels.Gen Cert.Hand
open Idealize.ShloMosaic

/-- A comparison whose bit is 1 holds. -/
theorem of_bit {p : Prop} [Decidable p] (h : BitVec.ofBool (decide p) = 1#1) : p := by
  by_contra hp
  simp [hp] at h

/-- Where the precondition holds, every entry of the first table is at or over 1000 and every weight is finite. -/
theorem holds_at (x : FVec Ideal S2x1x96x96x96 .f32) (t c : FVec Ideal S10x8 .f32) (w : FVec Ideal S768x4096 .f32)
    (b : FVec Ideal S768 .f32) (h : Cert.Pre_sentinels.fn (F := Ideal) x t c w b = fun _ => 1#1) :
    (∀ (k : Fin 10) (d : Fin 8), 1000 ≤ c (ix2 k d))
      ∧ ∀ (o : Fin 768) (k : Fin 4096), ⊥ < w (ix2 o k) ∧ w (ix2 o k) < ⊤ := by
  have e := congrFun h ix0
  unfold Cert.Pre_sentinels.fn at e
  obtain ⟨h1, h2⟩ := IntOp.andi_eq_one.1 e
  constructor
  · intro k d
    have g := Host.reduce_andi_all _ _ _ _ _ h1 (ix2 k d)
    pointwise at g
    rw [c_1000] at g
    exact of_bit g
  · intro o k
    have g := Host.reduce_andi_all _ _ _ _ _ h2 (ix2 o k)
    obtain ⟨g1, g2⟩ := IntOp.andi_eq_one.1 g
    pointwise at g1
    pointwise at g2
    rw [c_bot] at g1
    rw [c_top] at g2
    constructor
    · exact of_bit g1
    · exact of_bit g2

end Cert.Pre_sentinels.Hand
-- ==== Proof.Cascade.lean ====
/- The reclassification of one voxel as a function on the extended reals, and what two rounds of it amount to.
   A round walks the bands of the number line from below: what lies under −1000 takes entry 0 of a table, each band from
   −75 up to 1000 its own entry, what lies at or over 1000 entry 9; the band from −1000 to −75 has no entry and is kept. -/
module

public import Idealize.ShloMosaic.Lib.Pointwise

@[expose] public section

noncomputable section

namespace Cert.Hand

open Idealize.ShloMosaic

/-- The band `[lo, hi)` takes the value `new`; all else keeps its value. -/
def band (lo hi new v : EReal) : EReal := if lo ≤ v ∧ v < hi then new else v

/-- What lies under −1000 takes the value `new`. -/
def below (new v : EReal) : EReal := if v < -1000 then new else v

/-- What lies at or over 1000 takes the value `new`. -/
def above (new v : EReal) : EReal := if 1000 ≤ v then new else v

/-- The part of a round between its first and last step: the seven bands from −75 to 1000, in order. -/
def bands (c : Fin 10 → EReal) (v : EReal) : EReal :=
  band 200 1000 (c 7) (band 50 200 (c 6) (band 40 50 (c 5) (band 25 40 (c 4) (band 15 25 (c 3)
    (band 0 15 (c 2) (band (-75) 0 (c 1) v))))))

/-- The value of a voxel in the kept band, and 0 for any other. -/
def kept (x : EReal) : EReal := if -1000 ≤ x ∧ x < -75 then x else 0

/-- 0 for a voxel in the kept band, and 1 for any other. -/
def lost (x : EReal) : EReal := if -1000 ≤ x ∧ x < -75 then 0 else 1

/-- One round with the table `c`. -/
def round (c : Fin 10 → EReal) (x : EReal) : EReal := above (c 9) (bands c (below (c 0) x))

/-- A choice on two comparison bits joined by «and» is a choice on both comparisons. -/
theorem select_both {α : Type} (p q : Prop) [Decidable p] [Decidable q] (a b : α) :
    Scalar.select (IntOp.andi (BitVec.ofBool (decide p)) (BitVec.ofBool (decide q))) a b = if p ∧ q then a else b := by
  by_cases hp : p <;> by_cases hq : q <;> simp [hp, hq, Scalar.select, IntOp.andi]

/-- A value under a band is left alone by it. -/
theorem band_under {lo hi new v : EReal} (h : v < lo) : band lo hi new v = v :=
  if_neg fun k => absurd k.1 (not_le.2 h)

/-- A value over a band is left alone by it. -/
theorem band_over {lo hi new v : EReal} (h : hi ≤ v) : band lo hi new v = v :=
  if_neg fun k => absurd k.2 (not_lt.2 h)

/-- A value at or over a band's lower end comes out at or over its upper end, if the band's new value lies there. -/
theorem band_lifts {lo hi new v : EReal} (h : lo ≤ v) (hn : hi ≤ new) : hi ≤ band lo hi new v := by
  unfold band
  split
  · exact hn
  · next k => exact not_lt.1 fun hv => k ⟨h, hv⟩

/-- −1000 as the reading of a real number. -/
theorem neg1000_real : (-1000 : EReal) = ((-1000 : ℝ) : EReal) := by rw [EReal.coe_neg]; rfl

/-- −75 as the reading of a real number. -/
theorem neg75_real : (-75 : EReal) = ((-75 : ℝ) : EReal) := by rw [EReal.coe_neg]; rfl

/-- The thresholds of the bands increase. -/
theorem thresholds : (-1000 : EReal) < -75 ∧ (-75 : EReal) < 0 ∧ (0 : EReal) < 15 ∧ (15 : EReal) < 25 ∧ (25 : EReal) < 40
    ∧ (40 : EReal) < 50 ∧ (50 : EReal) < 200 ∧ (200 : EReal) < 1000 := by
  refine ⟨?_, ?_, ?_, ?_, ?_, ?_, ?_, ?_⟩
  · rw [neg1000_real, neg75_real]; exact_mod_cast (by norm_num : (-1000 : ℝ) < -75)
  · rw [neg75_real]; exact_mod_cast (by norm_num : (-75 : ℝ) < 0)
  · exact_mod_cast (by norm_num : (0 : ℝ) < 15)
  · exact_mod_cast (by norm_num : (15 : ℝ) < 25)
  · exact_mod_cast (by norm_num : (25 : ℝ) < 40)
  · exact_mod_cast (by norm_num : (40 : ℝ) < 50)
  · exact_mod_cast (by norm_num : (50 : ℝ) < 200)
  · exact_mod_cast (by norm_num : (200 : ℝ) < 1000)

/-- A round keeps a value in the band from −1000 to −75, whatever the table. -/
theorem round_keeps (c : Fin 10 → EReal) {x : EReal} (h : -1000 ≤ x) (h' : x < -75) : round c x = x := by
  obtain ⟨-, t1, t2, t3, t4, t5, t6, t7⟩ := thresholds
  have e0 := h'.trans t1
  have e1 := e0.trans t2
  have e2 := e1.trans t3
  have e3 := e2.trans t4
  have e4 := e3.trans t5
  have e5 := e4.trans t6
  have e6 := e5.trans t7
  have hb : below (c 0) x = x := if_neg (not_lt.2 h)
  unfold round bands
  rw [hb, band_under h', band_under e0, band_under e1, band_under e2, band_under e3, band_under e4, band_under e5]
  exact if_neg (not_le.2 e6)

/-- A round takes a value at or over 1000 to entry 9 of its table. -/
theorem round_high (c : Fin 10 → EReal) {x : EReal} (h : 1000 ≤ x) : round c x = c 9 := by
  obtain ⟨t0, t1, t2, t3, t4, t5, t6, t7⟩ := thresholds
  have e6 := t7.le.trans h
  have e5 := t6.le.trans e6
  have e4 := t5.le.trans e5
  have e3 := t4.le.trans e4
  have e2 := t3.le.trans e3
  have e1 := t2.le.trans e2
  have e0 := t1.le.trans e1
  have hb : below (c 0) x = x := if_neg (not_lt.2 (t0.le.trans e0))
  unfold round bands
  rw [hb, band_over e1, band_over e2, band_over e3, band_over e4, band_over e5, band_over e6, band_over h]
  exact if_pos h

/-- With every entry of the table at or over 1000, a round takes every value outside the kept band to entry 9. -/
theorem round_out (c : Fin 10 → EReal) (hc : ∀ k, 1000 ≤ c k) {x : EReal} (h : ¬(-1000 ≤ x ∧ x < -75)) :
    round c x = c 9 := by
  obtain ⟨t0, t1, t2, t3, t4, t5, t6, t7⟩ := thresholds
  have u6 := t7.le
  have u5 := t6.le.trans u6
  have u4 := t5.le.trans u5
  have u3 := t4.le.trans u4
  have u2 := t3.le.trans u3
  have u1 := t2.le.trans u2
  have u0 := t1.le.trans u1
  have hb : -75 ≤ below (c 0) x := by
    unfold below
    split
    · exact u0.trans (hc 0)
    · next k => exact not_lt.1 fun hv => h ⟨not_lt.1 k, hv⟩
  unfold round bands
  exact if_pos (band_lifts (band_lifts (band_lifts (band_lifts (band_lifts (band_lifts (band_lifts hb
    (u1.trans (hc 1))) (u2.trans (hc 2))) (u3.trans (hc 3))) (u4.trans (hc 4))) (u5.trans (hc 5))) (u6.trans (hc 6))) (hc 7))

/-- Two rounds, the first with a table of values at or over 1000: the kept band is kept, and all else becomes entry 9 of
    the second table. -/
theorem round_round (c w : Fin 10 → EReal) (hc : ∀ k, 1000 ≤ c k) (x : EReal) :
    round w (round c x) = if -1000 ≤ x ∧ x < -75 then x else w 9 := by
  by_cases h : -1000 ≤ x ∧ x < -75
  · rw [if_pos h, round_keeps c h.1 h.2, round_keeps w h.1 h.2]
  · rw [if_neg h, round_out c hc h, round_high w (hc 9)]

end Cert.Hand
-- ==== Proof.Pure.lean ====
/- What one block of each kernel computes, element by element, at exact arithmetic. -/
module

public import proofs.«01_k».proof.Proof.Gen.KernelIdeal.Skeleton
public import proofs.«01_k».proof.Proof.Cascade
public import proofs.«01_k».proof.Proof.Consts
public import Idealize.ShloMosaic.Lib.Pointwise

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem

/-- The first array of the packing kernel: patch row `r` (of 12 by 12), place `q` in the patch (8 by 8 by 8) holds the
    voxel there if it lies in the kept band, and 0 otherwise. -/
theorem pack_at (x : FVec Ideal S1x8x96x96 .f32) (r : Fin 144) (q : Fin 512) :
    k0_pay3 (F := Ideal) x (ix3 0 r q)
      = kept (x (ix4 0 ⟨q / 64, by omega⟩ ⟨r / 12 * 8 + q / 8 % 8, by omega⟩ ⟨r % 12 * 8 + q % 8, by omega⟩)) := by
  pointwise [k0_pay3, k0_pay2, k0_pay1]
  rw [select_both, c_neg1000, c_neg75]
  rfl

/-- The second array of the packing kernel: 0 where the first holds a voxel, and 1 elsewhere. -/
theorem mask_at (x : FVec Ideal S1x8x96x96 .f32) (r : Fin 144) (q : Fin 512) :
    k0_pay4 (F := Ideal) x (ix3 0 r q)
      = lost (x (ix4 0 ⟨q / 64, by omega⟩ ⟨r / 12 * 8 + q / 8 % 8, by omega⟩ ⟨r % 12 * 8 + q % 8, by omega⟩)) := by
  pointwise [k0_pay4, k0_pay2, k0_pay1]
  rw [select_both, c_neg1000, c_neg75]
  rfl

/-- The product kernel: two products over the 512 places of a patch, and the bias. -/
theorem gemm_at (s : FVec Ideal S768x512 .bf16) (a : FVec Ideal S1x1728x512 .bf16) (u : FVec Ideal S768x512 .bf16)
    (n : FVec Ideal S1x1728x512 .bf16) (b : FVec Ideal S768x1 .f32) (o : Fin 768) (v : Fin 1728) :
    k1_pay1 (F := Ideal) s a u n b (ix3 0 o v)
      = (∑ p : Fin 512, s (ix2 o p) * a (ix3 0 v p)) + (∑ p : Fin 512, u (ix2 o p) * n (ix3 0 v p)) + b (ix2 o 0) := by
  pointwise [k1_pay1]

end Cert.KernelIdeal.Hand
-- ==== Proof.Pack.lean ====
/- What the two arrays of the packing kernel hold when it has ended, for any contents at its start. -/
module

public import proofs.«01_k».proof.Proof.Gen.KernelIdeal.Frame
public import proofs.«01_k».proof.Proof.Pure
public import Idealize.ShloMosaic.Lib.Pipeline.ValueKit

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The voxel of volume `b` at place `q` of patch `v`. -/
def voxelAt (X : FVec Ideal S2x96x96x96 .f32) (b : Fin 2) (v : Fin 1728) (q : Fin 512) : EReal :=
  X (ix4 b ⟨v / 144 * 8 + q / 64, by omega⟩ ⟨v / 12 % 12 * 8 + q / 8 % 8, by omega⟩ ⟨v % 12 * 8 + q % 8, by omega⟩)

/-- The array of kept voxels. -/
def keptArr (X : FVec Ideal S2x96x96x96 .f32) : FVec Ideal S2x1728x512 .bf16 :=
  fun j => kept (voxelAt X (j 0) (j 1) (j 2))

/-- The array that marks the voxels not kept. -/
def lostArr (X : FVec Ideal S2x96x96x96 .f32) : FVec Ideal S2x1728x512 .bf16 :=
  fun j => lost (voxelAt X (j 0) (j 1) (j 2))

/-- Where the blocks of the packing kernel lie, at every point of its grid. -/
theorem idx0 : ∀ t : Fin cfg0.N, win0_0.index t = ![t.val / 12, t.val % 12, 0, 0] ∧ win0_1.index t = ![t.val / 12, t.val % 12, 0]
    ∧ win0_2.index t = ![t.val / 12, t.val % 12, 0] :=
  (by decide +kernel : ∀ t : Fin grid0.N, _)

/-- A voxel of the block of point `t` is the array's voxel at the patch and place where the block puts it. -/
theorem block_voxel (c : Dev nD) (t : Fin cfg0.N) (i : S2x1728x512.Idx) (r : Fin 144) (q : Fin 512)
    (h0 : (i 0).val = t.val / 12) (h1 : (i 1).val = t.val % 12 * 144 + r) (h2 : (i 2).val = q) :
    (show FVec Ideal S1x8x96x96 .f32 from iblk0 V c 0 t)
      (ix4 0 ⟨q / 64, by omega⟩ ⟨r / 12 * 8 + q / 8 % 8, by omega⟩ ⟨r % 12 * 8 + q % 8, by omega⟩)
      = voxelAt (V c main_v0) (i 0) (i 1) (i 2) := by
  unfold voxelAt
  blk_ext [iblk0, idx0 t]

/-- What point `t` leaves in its block of the first array is the array of kept voxels there. -/
theorem point_a (c : Dev nD) (t : Fin cfg0.N) (y : S1x144x512.Idx) : k0_pay3 (F := Ideal) (iblk0 V c 0 t) y
    = keptArr (V c main_v0) (((cfg0.win 1).blk t).view.emb y) := by
  obtain ⟨z, r, q, rfl⟩ : ∃ (z : Fin 1) (r : Fin 144) (q : Fin 512), y = ix3 z r q := ⟨y 0, y 1, y 2, eq_ix3 y⟩
  obtain rfl : z = 0 := Subsingleton.elim _ _
  refine (pack_at _ r q).trans (congrArg kept (block_voxel V c t _ r q ?_ ?_ ?_)) <;> blk_simp [idx0 t]
  exact Nat.add_zero _

/-- After the packing kernel its first array holds the kept voxels. -/
theorem final_a (c : Dev nD) : (dat0 V c).arrAt 1 cfg0.N = keptArr (V c main_v0) := by
  refine (dat0 V c).arrAt_eq_of_covers 1 _ (by decide +kernel) fun t _ y => ?_
  blk_simp
  rw [after0_1]; frame_out
  exact point_a V c t y

/-- What point `t` leaves in its block of the second array is the array of marks there. -/
theorem point_n (c : Dev nD) (t : Fin cfg0.N) (y : S1x144x512.Idx) : k0_pay4 (F := Ideal) (iblk0 V c 0 t) y
    = lostArr (V c main_v0) (((cfg0.win 2).blk t).view.emb y) := by
  obtain ⟨z, r, q, rfl⟩ : ∃ (z : Fin 1) (r : Fin 144) (q : Fin 512), y = ix3 z r q := ⟨y 0, y 1, y 2, eq_ix3 y⟩
  obtain rfl : z = 0 := Subsingleton.elim _ _
  refine (mask_at _ r q).trans (congrArg lost (block_voxel V c t _ r q ?_ ?_ ?_)) <;> blk_simp [idx0 t]
  exact Nat.add_zero _

/-- After the packing kernel its second array marks the voxels not kept. -/
theorem final_n (c : Dev nD) : (dat0 V c).arrAt 2 cfg0.N = lostArr (V c main_v0) := by
  refine (dat0 V c).arrAt_eq_of_covers 2 _ (by decide +kernel) fun t _ y => ?_
  blk_simp
  rw [after0_2]; frame_out
  exact point_n V c t y

end Cert.KernelIdeal.Hand
-- ==== Proof.Gemm.lean ====
/- What the array of the product kernel holds when it has ended, for any contents at its start. -/
module

public import proofs.«01_k».proof.Proof.Gen.KernelIdeal.Frame
public import proofs.«01_k».proof.Proof.Pure
public import Idealize.ShloMosaic.Lib.Pipeline.ValueKit

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The product array as a function of its five operands. -/
def prodArr (a n : FVec Ideal S2x1728x512 .bf16) (s u : FVec Ideal S768x512 .bf16) (b : FVec Ideal S768x1 .f32) :
    FVec Ideal S2x768x1728 .f32 :=
  fun j => (∑ p : Fin 512, s (ix2 (j 1) p) * a (ix3 (j 0) (j 2) p)) + (∑ p : Fin 512, u (ix2 (j 1) p) * n (ix3 (j 0) (j 2) p))
    + b (ix2 (j 1) 0)

/-- Where the blocks of the product kernel lie, at either point of its grid. -/
theorem idx1 : ∀ t : Fin cfg1.N, win1_0.index t = ![t.val, 0, 0] ∧ win1_1.index t = ![t.val, 0, 0]
    ∧ win1_2.index t = ![0, 0] ∧ win1_3.index t = ![0, 0] ∧ win1_4.index t = ![0, 0] ∧ win1_5.index t = ![t.val, 0, 0] :=
  (by decide +kernel : ∀ t : Fin grid1.N, _)

/-- What either point leaves in its block of the result is the product array there. -/
theorem point_out (c : Dev nD) (t : Fin cfg1.N) (y : S1x768x1728.Idx) :
    k1_pay1 (F := Ideal) (iblk1 V c 2 t) (iblk1 V c 0 t) (iblk1 V c 3 t) (iblk1 V c 1 t) (iblk1 V c 4 t) y
      = prodArr (V c main_v9_0) (V c main_v9_1) (V c main_v3) (V c main_v7) (V c main_v8) (((cfg1.win 5).blk t).view.emb y) := by
  pointwise [k1_pay1, prodArr]
  blk_point [iblk1, idx1 t]

/-- After the product kernel its array holds the two products and the bias. -/
theorem final_out (c : Dev nD) : (dat1 V c).arrAt 5 cfg1.N
    = prodArr (V c main_v9_0) (V c main_v9_1) (V c main_v3) (V c main_v7) (V c main_v8) := by
  refine (dat1 V c).arrAt_eq_of_covers 5 _ (by decide +kernel) fun t _ y => ?_
  blk_simp
  rw [after1_5]; frame_out
  exact point_out V c t y

end Cert.KernelIdeal.Hand
-- ==== Proof.Entry.lean ====
/- What the host has computed when each kernel starts, and the kernel program's result array, as terms over the arguments. -/
module

public import proofs.«01_k».proof.Proof.Pack
public import proofs.«01_k».proof.Proof.Gemm
public import Idealize.ShloMosaic.Lib.StableHlo.ReadAt

@[expose] public section

set_option maxRecDepth 16384

noncomputable section

namespace Cert.KernelIdeal.Hand

open Cert.KernelIdeal Cert.KernelIdeal.Gen Cert.Hand
open Idealize.ShloMosaic Idealize.ShloMosaic.TcCoe Idealize.SL.Sem Idealize.ShloMosaic.StableHlo

variable (m : (ℓ : Loc nD τ sig) → Buf (Elt Ideal) ℓ) (ρ : Dev nD → PrngReg)

/-- The packing kernel starts on the volume without its axis of length one. -/
theorem entry_x (c : Dev nD) (b : Fin 2) (x y z : Fin 96) :
    (show FVec Ideal S2x96x96x96 .f32 from W1 m ρ c (Proc.devRef .tc main_v0)) (ix4 b x y z)
      = (show FVec Ideal S2x1x96x96x96 .f32 from m ((c : Thread nD τ).loc main_arg0)) (ix5 b 0 x y z) := by
  unfold W1
  after_reads_at

/-- The first weights of the product kernel: at each place the sum of the weights over the lanes. -/
theorem entry_s (c : Dev nD) (o : Fin 768) (p : Fin 512) :
    (show FVec Ideal S768x512 .bf16 from W1 m ρ c (Proc.devRef .tc main_v3)) (ix2 o p)
      = ∑ d : Fin 8, (show FVec Ideal S768x4096 .f32 from m ((c : Thread nD τ).loc main_arg3)) (ix2 o ⟨p * 8 + d, by omega⟩) := by
  unfold W1
  after_reads_at

/-- Its second weights: at each place the weights against row 9 of the second table. -/
theorem entry_u (c : Dev nD) (o : Fin 768) (p : Fin 512) :
    (show FVec Ideal S768x512 .bf16 from W1 m ρ c (Proc.devRef .tc main_v7)) (ix2 o p)
      = ∑ d : Fin 8, (show FVec Ideal S768x4096 .f32 from m ((c : Thread nD τ).loc main_arg3)) (ix2 o ⟨p * 8 + d, by omega⟩)
        * (show FVec Ideal S10x8 .f32 from m ((c : Thread nD τ).loc main_arg1)) (ix2 9 d) := by
  unfold W1
  after_reads_at

/-- Its bias: the bias argument as a column. -/
theorem entry_b (c : Dev nD) (o : Fin 768) :
    (show FVec Ideal S768x1 .f32 from W1 m ρ c (Proc.devRef .tc main_v8)) (ix2 o 0)
      = (show FVec Ideal S768 .f32 from m ((c : Thread nD τ).loc main_arg4)) (ix1 o) := by
  unfold W1
  after_reads_at

/-- The product kernel's array after it, over what the host has computed. -/
theorem prod_eq (c : Dev nD) : W3 m ρ c (Proc.devRef .tc main_v10)
    = prodArr (keptArr (V1 m ρ c main_v0)) (lostArr (V1 m ρ c main_v0)) (V1 m ρ c main_v3) (V1 m ρ c main_v7)
        (V1 m ρ c main_v8) := by
  have hs : V2 m ρ c main_v3 = V1 m ρ c main_v3 := W2_of m ρ c main_v3 (by decide)
  have hu : V2 m ρ c main_v7 = V1 m ρ c main_v7 := W2_of m ρ c main_v7 (by decide)
  have hb : V2 m ρ c main_v8 = V1 m ρ c main_v8 := W2_of m ρ c main_v8 (by decide)
  have ha : V2 m ρ c main_v9_0 = keptArr (V1 m ρ c main_v0) := (W2_arr m ρ c 1).trans (final_a (V1 m ρ) c)
  have hn : V2 m ρ c main_v9_1 = lostArr (V1 m ρ c main_v0) := (W2_arr m ρ c 2).trans (final_n (V1 m ρ) c)
  refine ((W3_arr m ρ c 5).trans (final_out (V2 m ρ) c)).trans ?_
  rw [hs, hu, hb, ha, hn]

/-- The voxel at place `p` of the patch at `x`, `y`, `z`. -/
def patchVoxel (X : FVec Ideal S2x1x96x96x96 .f32) (b : Fin 2) (x y z : Fin 12) (p : Fin 512) : EReal :=
  X (ix5 b 0 ⟨x * 8 + p / 64, by omega⟩ ⟨y * 8 + p / 8 % 8, by omega⟩ ⟨z * 8 + p % 8, by omega⟩)

/-- Place `p` of the patch with number `144·x + 12·y + z`, in the volume as the packing kernel has it, is place `p` of
    the patch at `x`, `y`, `z` of the volume argument. -/
theorem entry_voxel (c : Dev nD) (b : Fin 2) (x y z : Fin 12) (p : Fin 512) :
    voxelAt (V1 m ρ c main_v0) b ⟨x * 144 + y * 12 + z, by omega⟩ p
      = patchVoxel (m ((c : Thread nD τ).loc main_arg0)) b x y z p := by
  refine (entry_x m ρ c b _ _ _).trans ?_
  unfold patchVoxel
  have e1 : (x.val * 144 + y.val * 12 + z.val) / 144 = x.val := by omega
  have e2 : (x.val * 144 + y.val * 12 + z.val) / 12 % 12 = y.val := by omega
  have e3 : (x.val * 144 + y.val * 12 + z.val) % 12 = z.val := by omega
  simp only [e1, e2, e3]

/-- The kernel program's result array at one element, over its arguments: the kept voxels of the patch against the sums of the
    weights, the marks against the weights' products with row 9 of the second table, and the bias. -/
theorem out_at (c : Dev nD) (b : Fin 2) (o : Fin 768) (x y z : Fin 12) :
    (show FVec Ideal S2x768x12x12x12 .f32 from W4 m ρ c (Proc.devRef .tc main_v11)) (ix5 b o x y z)
      = (∑ p : Fin 512, (∑ d : Fin 8, (show FVec Ideal S768x4096 .f32 from m ((c : Thread nD τ).loc main_arg3)) (ix2 o ⟨p * 8 + d, by omega⟩))
            * kept (patchVoxel (m ((c : Thread nD τ).loc main_arg0)) b x y z p))
        + (∑ p : Fin 512, (∑ d : Fin 8, (show FVec Ideal S768x4096 .f32 from m ((c : Thread nD τ).loc main_arg3)) (ix2 o ⟨p * 8 + d, by omega⟩)
              * (show FVec Ideal S10x8 .f32 from m ((c : Thread nD τ).loc main_arg1)) (ix2 9 d))
            * lost (patchVoxel (m ((c : Thread nD τ).loc main_arg0)) b x y z p))
        + (show FVec Ideal S768 .f32 from m ((c : Thread nD τ).loc main_arg4)) (ix1 o) := by
  have h : (show FVec Ideal S2x768x12x12x12 .f32 from W4 m ρ c (Proc.devRef .tc main_v11)) (ix5 b o x y z)
      = (show FVec Ideal S2x768x1728 .f32 from W3 m ρ c (Proc.devRef .tc main_v10)) (ix3 b o ⟨x * 144 + y * 12 + z, by omega⟩) := by
    unfold W4
    after_reads_at
  refine h.trans ((congrFun (prod_eq m ρ c) _).trans ?_)
  refine Ideal.add_congr (Ideal.add_congr (Finset.sum_congr rfl fun p _ => Ideal.mul_congr ?_ ?_)
    (Finset.sum_congr rfl fun p _ => Ideal.mul_congr ?_ ?_)) ?_
  · exact entry_s m ρ c o p
  · exact congrArg kept (entry_voxel m ρ c b x y z p)
  · exact entry_u m ρ c o p
  · exact congrArg lost (entry_voxel m ρ c b x y z p)
  · exact entry_b m ρ c o

end Cert.KernelIdeal.Hand
-- ==== Proof.RefRead.lean ====
/- The reference's two rounds of reclassification, read one voxel and one lane at a time. -/
module

public import proofs.«01_k».proof.Proof.Gen.ReferenceIdeal.Run
public import proofs.«01_k».proof.Proof.Cascade
public import proofs.«01_k».proof.Proof.Consts
public import Idealize.ShloMosaic.Lib.Pointwise
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value Cert.Hand
open Idealize.ShloMosaic Idealize.ShloMosaic.TcCoe Idealize.SL.Sem

variable (V0 : Valuation τ sig (Elt Ideal))

/-- The volume, the two tables and the voxels after a step, at their plain types. -/
abbrev vol : FVec Ideal S2x1x96x96x96 .f32 := V0 (Proc.devRef .tc main_arg0)
/-- The second table (`vectors`). -/
abbrev tab : FVec Ideal S10x8 .f32 := V0 (Proc.devRef .tc main_arg1)
/-- The first table (`cls_vectors`). -/
abbrev cls : FVec Ideal S10x8 .f32 := V0 (Proc.devRef .tc main_arg2)

/-- The voxel with number `i`. -/
def voxel (i : Fin 1769472) : EReal :=
  vol V0 (ix5 ⟨i / 884736, by omega⟩ 0 ⟨i / 9216 % 96, by omega⟩ ⟨i / 96 % 96, by omega⟩ ⟨i % 96, by omega⟩)

/-- First round, first step: what lies under −1000. -/
theorem step_v5 (i : Fin 1769472) (d : Fin 8) :
    (show FVec Ideal S1769472x8 .f32 from res_main_v5 V0) (ix2 i d) = below (cls V0 (ix2 0 d)) (voxel V0 i) := by
  unfold res_main_v5
  clean_types
  pointwise [res_main_v0]
  rw [c_neg1000]
  rfl

/-- First round, the band from −75 to 0. -/
theorem step_v13 (i : Fin 1769472) (d : Fin 8) :
    (show FVec Ideal S1769472x8 .f32 from res_main_v13 V0) (ix2 i d)
      = band (-75) 0 (cls V0 (ix2 1 d)) ((show FVec Ideal S1769472x8 .f32 from res_main_v5 V0) (ix2 i d)) := by
  unfold res_main_v13
  clean_types
  pointwise []
  rw [select_both, c_neg75]
  rfl

/-- First round, the band from 0 to 15. -/
theorem step_v21 (i : Fin 1769472) (d : Fin 8) :
    (show FVec Ideal S1769472x8 .f32 from res_main_v21 V0) (ix2 i d)
      = band 0 15 (cls V0 (ix2 2 d)) ((show FVec Ideal S1769472x8 .f32 from res_main_v13 V0) (ix2 i d)) := by
  unfold res_main_v21
  clean_types
  pointwise []
  rw [select_both, c_15]
  rfl

/-- First round, the band from 15 to 25. -/
theorem step_v29 (i : Fin 1769472) (d : Fin 8) :
    (show FVec Ideal S1769472x8 .f32 from res_main_v29 V0) (ix2 i d)
      = band 15 25 (cls V0 (ix2 3 d)) ((show FVec Ideal S1769472x8 .f32 from res_main_v21 V0) (ix2 i d)) := by
  unfold res_main_v29
  clean_types
  pointwise []
  rw [select_both, c_15, c_25]
  rfl

/-- First round, the band from 25 to 40. -/
theorem step_v37 (i : Fin 1769472) (d : Fin 8) :
    (show FVec Ideal S1769472x8 .f32 from res_main_v37 V0) (ix2 i d)
      = band 25 40 (cls V0 (ix2 4 d)) ((show FVec Ideal S1769472x8 .f32 from res_main_v29 V0) (ix2 i d)) := by
  unfold res_main_v37
  clean_types
  pointwise []
  rw [select_both, c_25, c_40]
  rfl

/-- First round, the band from 40 to 50. -/
theorem step_v45 (i : Fin 1769472) (d : Fin 8) :
    (show FVec Ideal S1769472x8 .f32 from res_main_v45 V0) (ix2 i d)
      = band 40 50 (cls V0 (ix2 5 d)) ((show FVec Ideal S1769472x8 .f32 from res_main_v37 V0) (ix2 i d)) := by
  unfold res_main_v45
  clean_types
  pointwise []
  rw [select_both, c_40, c_50]
  rfl

/-- First round, the band from 50 to 200. -/
theorem step_v53 (i : Fin 1769472) (d : Fin 8) :
    (show FVec Ideal S1769472x8 .f32 from res_main_v53 V0) (ix2 i d)
      = band 50 200 (cls V0 (ix2 6 d)) ((show FVec Ideal S1769472x8 .f32 from res_main_v45 V0) (ix2 i d)) := by
  unfold res_main_v53
  clean_types
  pointwise []
  rw [select_both, c_50, c_200]
  rfl

/-- First round, the band from 200 to 1000. -/
theorem step_v61 (i : Fin 1769472) (d : Fin 8) :
    (show FVec Ideal S1769472x8 .f32 from res_main_v61 V0) (ix2 i d)
      = band 200 1000 (cls V0 (ix2 7 d)) ((show FVec Ideal S1769472x8 .f32 from res_main_v53 V0) (ix2 i d)) := by
  unfold res_main_v61
  clean_types
  pointwise []
  rw [select_both, c_200, c_1000]
  rfl

/-- First round, last step: what lies at or over 1000. -/
theorem step_v66 (i : Fin 1769472) (d : Fin 8) :
    (show FVec Ideal S1769472x8 .f32 from res_main_v66 V0) (ix2 i d)
      = above (cls V0 (ix2 9 d)) ((show FVec Ideal S1769472x8 .f32 from res_main_v61 V0) (ix2 i d)) := by
  unfold res_main_v66
  clean_types
  pointwise []
  rw [c_1000]
  rfl

/-- Second round, first step: what lies under −1000. -/
theorem step_v71 (i : Fin 1769472) (d : Fin 8) :
    (show FVec Ideal S1769472x8 .f32 from res_main_v71 V0) (ix2 i d)
      = below (tab V0 (ix2 0 d)) ((show FVec Ideal S1769472x8 .f32 from res_main_v66 V0) (ix2 i d)) := by
  unfold res_main_v71
  clean_types
  pointwise []
  rw [c_neg1000]
  rfl

/-- Second round, the band from −75 to 0. -/
theorem step_v79 (i : Fin 1769472) (d : Fin 8) :
    (show FVec Ideal S1769472x8 .f32 from res_main_v79 V0) (ix2 i d)
      = band (-75) 0 (tab V0 (ix2 1 d)) ((show FVec Ideal S1769472x8 .f32 from res_main_v71 V0) (ix2 i d)) := by
  unfold res_main_v79
  clean_types
  pointwise []
  rw [select_both, c_neg75]
  rfl

/-- Second round, the band from 0 to 15. -/
theorem step_v87 (i : Fin 1769472) (d : Fin 8) :
    (show FVec Ideal S1769472x8 .f32 from res_main_v87 V0) (ix2 i d)
      = band 0 15 (tab V0 (ix2 2 d)) ((show FVec Ideal S1769472x8 .f32 from res_main_v79 V0) (ix2 i d)) := by
  unfold res_main_v87
  clean_types
  pointwise []
  rw [select_both, c_15]
  rfl

/-- Second round, the band from 15 to 25. -/
theorem step_v95 (i : Fin 1769472) (d : Fin 8) :
    (show FVec Ideal S1769472x8 .f32 from res_main_v95 V0) (ix2 i d)
      = band 15 25 (tab V0 (ix2 3 d)) ((show FVec Ideal S1769472x8 .f32 from res_main_v87 V0) (ix2 i d)) := by
  unfold res_main_v95
  clean_types
  pointwise []
  rw [select_both, c_15, c_25]
  rfl

/-- Second round, the band from 25 to 40. -/
theorem step_v103 (i : Fin 1769472) (d : Fin 8) :
    (show FVec Ideal S1769472x8 .f32 from res_main_v103 V0) (ix2 i d)
      = band 25 40 (tab V0 (ix2 4 d)) ((show FVec Ideal S1769472x8 .f32 from res_main_v95 V0) (ix2 i d)) := by
  unfold res_main_v103
  clean_types
  pointwise []
  rw [select_both, c_25, c_40]
  rfl

/-- Second round, the band from 40 to 50. -/
theorem step_v111 (i : Fin 1769472) (d : Fin 8) :
    (show FVec Ideal S1769472x8 .f32 from res_main_v111 V0) (ix2 i d)
      = band 40 50 (tab V0 (ix2 5 d)) ((show FVec Ideal S1769472x8 .f32 from res_main_v103 V0) (ix2 i d)) := by
  unfold res_main_v111
  clean_types
  pointwise []
  rw [select_both, c_40, c_50]
  rfl

/-- Second round, the band from 50 to 200. -/
theorem step_v119 (i : Fin 1769472) (d : Fin 8) :
    (show FVec Ideal S1769472x8 .f32 from res_main_v119 V0) (ix2 i d)
      = band 50 200 (tab V0 (ix2 6 d)) ((show FVec Ideal S1769472x8 .f32 from res_main_v111 V0) (ix2 i d)) := by
  unfold res_main_v119
  clean_types
  pointwise []
  rw [select_both, c_50, c_200]
  rfl

/-- Second round, the band from 200 to 1000. -/
theorem step_v127 (i : Fin 1769472) (d : Fin 8) :
    (show FVec Ideal S1769472x8 .f32 from res_main_v127 V0) (ix2 i d)
      = band 200 1000 (tab V0 (ix2 7 d)) ((show FVec Ideal S1769472x8 .f32 from res_main_v119 V0) (ix2 i d)) := by
  unfold res_main_v127
  clean_types
  pointwise []
  rw [select_both, c_200, c_1000]
  rfl

/-- The voxels after both rounds. -/
def classified : FVec Ideal S1769472x8 .f32 :=
  select (cmpf .oge (res_main_v127 V0) (broadcastInDim S1769472x8 ![] bcast_S_S1769472x8 (constant S_ .f32 0x447A0000#32))) (broadcastInDim S1769472x8 ![1] bcast_S8_S1769472x8_1 (shapeCast _ (extractStridedSlice S1x8 ![9, 0] (V0 (Proc.devRef .tc main_arg1)) slices_S10x8_S1x8_9_0) shapeCasts_S1x8_S8)) (res_main_v127 V0)

/-- Second round, last step: what lies at or over 1000. -/
theorem step_last (i : Fin 1769472) (d : Fin 8) :
    classified V0 (ix2 i d)
      = above (tab V0 (ix2 9 d)) ((show FVec Ideal S1769472x8 .f32 from res_main_v127 V0) (ix2 i d)) := by
  unfold classified
  clean_types
  pointwise []
  rw [c_1000]
  rfl

/-- What the reference holds for a voxel in a lane is two rounds over the voxel, with that lane of either table. -/
theorem classified_at (i : Fin 1769472) (d : Fin 8) :
    classified V0 (ix2 i d) = round (fun k => tab V0 (ix2 k d)) (round (fun k => cls V0 (ix2 k d)) (voxel V0 i)) := by
  rw [step_last, step_v127, step_v119, step_v111, step_v103, step_v95, step_v87, step_v79, step_v71, step_v66, step_v61,
    step_v53, step_v45, step_v37, step_v29, step_v21, step_v13, step_v5]
  rfl

end Cert.ReferenceIdeal.Hand
-- ==== Proof.RefOut.lean ====
/- The reference's result, read at one element. -/
module

public import proofs.«01_k».proof.Proof.RefRead

@[expose] public section

set_option maxRecDepth 16384

noncomputable section

namespace Cert.ReferenceIdeal.Hand

open Cert.ReferenceIdeal Cert.ReferenceIdeal.Gen Cert.Hand
open Idealize.ShloMosaic Idealize.ShloMosaic.TcCoe Idealize.SL.Sem

/-- The reference's result as a term over the classified voxels, the weights and the bias. -/
def result (C : FVec Ideal S1769472x8 .f32) (W : FVec Ideal S768x4096 .f32) (B : FVec Ideal S768 .f32) :
    FVec Ideal S2x768x12x12x12 .f32 :=
  transpose S2x768x12x12x12 [0, 4, 1, 2, 3] (addf (Host.dotGeneral dot_S2x12x12x12x4096_S4096x768_S2x12x12x12x768_4_0_0123_1_n_n none (shapeCast _ (transpose S2x12x12x12x8x8x8x8 [0, 2, 3, 4, 5, 6, 7, 1] (transpose S2x8x12x12x12x8x8x8 [0, 1, 2, 4, 6, 3, 5, 7] (shapeCast _ (transpose S2x8x96x96x96 [0, 4, 1, 2, 3] (shapeCast _ (shapeCast _ C shapeCasts_S1769472x8_S2x1x96x96x96x8) shapeCasts_S2x1x96x96x96x8_S2x96x96x96x8) transposes_S2x96x96x96x8_S2x8x96x96x96_0_4_1_2_3) shapeCasts_S2x8x96x96x96_S2x8x12x8x12x8x12x8) transposes_S2x8x12x8x12x8x12x8_S2x8x12x12x12x8x8x8_0_1_2_4_6_3_5_7) transposes_S2x8x12x12x12x8x8x8_S2x12x12x12x8x8x8x8_0_2_3_4_5_6_7_1) shapeCasts_S2x12x12x12x8x8x8x8_S2x12x12x12x4096) (transpose S4096x768 [1, 0] W transposes_S768x4096_S4096x768_1_0)) (broadcastInDim S2x12x12x12x768 ![0, 1, 2, 3, 4] bcast_S1x1x1x1x768_S2x12x12x12x768_0_1_2_3_4 (broadcastInDim S1x1x1x1x768 ![4] bcast_S768_S1x1x1x1x768_4 B))) transposes_S2x12x12x12x768_S2x768x12x12x12_0_4_1_2_3

/-- The reference's result at one element: the classified lanes of the patch's voxels against the weights, and the bias. -/
theorem result_at (C : FVec Ideal S1769472x8 .f32) (W : FVec Ideal S768x4096 .f32) (B : FVec Ideal S768 .f32)
    (b : Fin 2) (o : Fin 768) (x y z : Fin 12) : result C W B (ix5 b o x y z)
      = (∑ p : Fin 512, ∑ d : Fin 8,
          C (ix2 ⟨b * 884736 + (x * 8 + p / 64) * 9216 + (y * 8 + p / 8 % 8) * 96 + (z * 8 + p % 8), by omega⟩ d)
            * W (ix2 o ⟨p * 8 + d, by omega⟩)) + B (ix1 o) := by
  pointwise [result]
  rw [Fin.sum_univ_tiles 512 8 rfl]
  refine Ideal.add_congr (Finset.sum_congr rfl fun p _ => Finset.sum_congr rfl fun d _ => Ideal.mul_congr ?_ rfl) rfl
  have e1 : (p.val * 8 + d.val) / 512 = p.val / 64 := by omega
  have e2 : (p.val * 8 + d.val) / 64 % 8 = p.val / 8 % 8 := by omega
  have e3 : (p.val * 8 + d.val) / 8 % 8 = p.val % 8 := by omega
  have e4 : (p.val * 8 + d.val) % 8 = d.val := by omega
  simp only [e1, e2, e3, e4]

variable (V0 : Valuation τ sig (Elt Ideal))

/-- The voxel at place `p` of the patch at `x`, `y`, `z`. -/
def patchVoxel (X : FVec Ideal S2x1x96x96x96 .f32) (b : Fin 2) (x y z : Fin 12) (p : Fin 512) : EReal :=
  X (ix5 b 0 ⟨x * 8 + p / 64, by omega⟩ ⟨y * 8 + p / 8 % 8, by omega⟩ ⟨z * 8 + p % 8, by omega⟩)

/-- The four coordinates in the number of a voxel of a volume. -/
theorem digits {b X Y Z : ℕ} (hX : X < 96) (hY : Y < 96) (hZ : Z < 96) :
    (b * 884736 + X * 9216 + Y * 96 + Z) / 884736 = b ∧ (b * 884736 + X * 9216 + Y * 96 + Z) / 9216 % 96 = X
      ∧ (b * 884736 + X * 9216 + Y * 96 + Z) / 96 % 96 = Y ∧ (b * 884736 + X * 9216 + Y * 96 + Z) % 96 = Z := by
  refine ⟨?_, ?_, ?_, ?_⟩ <;> omega

/-- The number of a voxel of a patch, and that voxel. -/
theorem voxel_patch (b : Fin 2) (x y z : Fin 12) (p : Fin 512) :
    voxel V0 ⟨b * 884736 + (x * 8 + p / 64) * 9216 + (y * 8 + p / 8 % 8) * 96 + (z * 8 + p % 8), by omega⟩
      = patchVoxel (vol V0) b x y z p := by
  unfold voxel patchVoxel
  obtain ⟨e1, e2, e3, e4⟩ := digits (b := b.val) (X := x.val * 8 + p.val / 64) (Y := y.val * 8 + p.val / 8 % 8)
    (Z := z.val * 8 + p.val % 8) (by omega) (by omega) (by omega)
  simp only [e1, e2, e3, e4]

/-- The reference's result at one element where the first table holds values at or over 1000: a voxel of the kept band
    against each of its lanes' weights, any other voxel's lanes being row 9 of the second table; and the bias. -/
theorem result_of_high (hc : ∀ k d, 1000 ≤ cls V0 (ix2 k d)) (W : FVec Ideal S768x4096 .f32) (B : FVec Ideal S768 .f32)
    (b : Fin 2) (o : Fin 768) (x y z : Fin 12) : result (classified V0) W B (ix5 b o x y z)
      = (∑ p : Fin 512, ∑ d : Fin 8,
          (if -1000 ≤ patchVoxel (vol V0) b x y z p ∧ patchVoxel (vol V0) b x y z p < -75 then patchVoxel (vol V0) b x y z p
            else tab V0 (ix2 9 d)) * W (ix2 o ⟨p * 8 + d, by omega⟩)) + B (ix1 o) := by
  rw [result_at]
  refine Ideal.add_congr (Finset.sum_congr rfl fun p _ => Finset.sum_congr rfl fun d _ => Ideal.mul_congr ?_ rfl) rfl
  rw [classified_at, round_round _ _ (fun k => hc k d), voxel_patch]

end Cert.ReferenceIdeal.Hand
-- ==== Proof.Patch.lean ====
/- The equation between the two ways of summing a patch, on the extended reals. -/
module

public import proofs.«01_k».proof.Proof.Cascade

@[expose] public section

noncomputable section

namespace Cert.Hand

open Idealize.ShloMosaic

/-- A finite sum of readings of real numbers is the reading of their sum. -/
theorem sum_real {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A finite factor goes into a sum of finite terms. -/
theorem sum_mul_finite {n : ℕ} (w : Fin n → EReal) (hw : ∀ d, ⊥ < w d ∧ w d < ⊤) {x : EReal} (h : ⊥ < x) (h' : x < ⊤) :
    (∑ d, w d) * x = ∑ d, x * w d := by
  obtain ⟨r, rfl⟩ : ∃ r : ℝ, x = r := ⟨x.toReal, (EReal.coe_toReal h'.ne h.ne').symm⟩
  obtain ⟨f, rfl⟩ : ∃ f : Fin n → ℝ, w = fun d => (f d : EReal) :=
    ⟨fun d => (w d).toReal, funext fun d => (EReal.coe_toReal (hw d).2.ne (hw d).1.ne').symm⟩
  simp only [← EReal.coe_mul, sum_real]
  rw [Finset.sum_mul]
  exact congrArg _ (Finset.sum_congr rfl fun d _ => mul_comm _ _)

/-- One voxel: its kept value against the sum of the lanes' weights, and its mark against the weights' products with a row `e`,
    are together the lanes' sum of what the voxel becomes against the weights. -/
theorem voxel_sum {n : ℕ} (w e : Fin n → EReal) (hw : ∀ d, ⊥ < w d ∧ w d < ⊤) (x : EReal) :
    (∑ d, w d) * kept x + (∑ d, w d * e d) * lost x = ∑ d, (if -1000 ≤ x ∧ x < -75 then x else e d) * w d := by
  unfold kept lost
  by_cases h : -1000 ≤ x ∧ x < -75
  · simp only [if_pos h]
    rw [mul_zero, add_zero]
    refine sum_mul_finite w hw (lt_of_lt_of_le ?_ h.1) (h.2.trans ?_)
    · rw [neg1000_real]; exact EReal.bot_lt_coe _
    · rw [neg75_real]; exact EReal.coe_lt_top _
  · simp only [if_neg h]
    rw [mul_zero, zero_add, mul_one]
    exact Finset.sum_congr rfl fun d _ => mul_comm _ _

/-- A patch: the two sums over its voxels are together one sum over voxels and lanes. -/
theorem patch_sum {k n : ℕ} (w : Fin k → Fin n → EReal) (e : Fin n → EReal) (hw : ∀ p d, ⊥ < w p d ∧ w p d < ⊤)
    (x : Fin k → EReal) (β : EReal) :
    (∑ p, (∑ d, w p d) * kept (x p)) + (∑ p, (∑ d, w p d * e d) * lost (x p)) + β
      = (∑ p, ∑ d, (if -1000 ≤ x p ∧ x p < -75 then x p else e d) * w p d) + β := by
  rw [← Finset.sum_add_distrib]
  exact congrArg (· + β) (Finset.sum_congr rfl fun p _ => voxel_sum (w p) e (hw p) (x p))

end Cert.Hand
-- ==== Proof.Equation.lean ====
/- The kernel program's result array is the reference's. -/
module

public import proofs.«01_k».proof.Proof.Entry
public import proofs.«01_k».proof.Proof.RefOut
public import proofs.«01_k».proof.Proof.Patch

@[expose] public section

set_option maxRecDepth 16384

noncomputable section

namespace Cert.Hand

open Idealize.ShloMosaic Idealize.ShloMosaic.TcCoe Idealize.SL.Sem

/-- Where the first table holds values at or over 1000 and the weights are finite, the reference's result over arguments
    that agree with the kernel program's is the kernel program's result. -/
theorem equation (m : (ℓ : Loc KernelIdeal.nD KernelIdeal.τ KernelIdeal.sig) → Buf (Elt Ideal) ℓ)
    (ρ : Dev KernelIdeal.nD → PrngReg) (c : Dev KernelIdeal.nD) (V0 : Valuation ReferenceIdeal.τ ReferenceIdeal.sig (Elt Ideal))
    (W : FVec Ideal KernelIdeal.S768x4096 .f32) (B : FVec Ideal KernelIdeal.S768 .f32)
    (h0 : ReferenceIdeal.Hand.vol V0 = m ((c : Thread KernelIdeal.nD KernelIdeal.τ).loc KernelIdeal.main_arg0))
    (h1 : ReferenceIdeal.Hand.tab V0 = m ((c : Thread KernelIdeal.nD KernelIdeal.τ).loc KernelIdeal.main_arg1))
    (h3 : W = m ((c : Thread KernelIdeal.nD KernelIdeal.τ).loc KernelIdeal.main_arg3))
    (h4 : B = m ((c : Thread KernelIdeal.nD KernelIdeal.τ).loc KernelIdeal.main_arg4))
    (hc : ∀ (k : Fin 10) (d : Fin 8), 1000 ≤ ReferenceIdeal.Hand.cls V0 (ix2 k d))
    (hw : ∀ (o : Fin 768) (k : Fin 4096), ⊥ < W (ix2 o k) ∧ W (ix2 o k) < ⊤) :
    ReferenceIdeal.Hand.result (ReferenceIdeal.Hand.classified V0) W B
      = KernelIdeal.Gen.W4 m ρ c (Proc.devRef .tc KernelIdeal.main_v11) := by
  funext j
  obtain ⟨b, o, x, y, z, rfl⟩ : ∃ (b : Fin 2) (o : Fin 768) (x y z : Fin 12), j = ix5 b o x y z :=
    ⟨j 0, j 1, j 2, j 3, j 4, eq_ix5 j⟩
  refine (ReferenceIdeal.Hand.result_of_high V0 hc W B b o x y z).trans (Eq.symm ?_)
  refine (KernelIdeal.Hand.out_at m ρ c b o x y z).trans ?_
  rw [← h0, ← h1, ← h3, ← h4]
  exact patch_sum (fun (p : Fin 512) (d : Fin 8) => W (ix2 o ⟨p * 8 + d, by omega⟩))
    (fun d => ReferenceIdeal.Hand.tab V0 (ix2 9 d)) (fun p d => hw o _)
    (fun p => ReferenceIdeal.Hand.patchVoxel (ReferenceIdeal.Hand.vol V0) b x y z p) (B (ix1 o))

end Cert.Hand
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_sentinels
public import proofs.«01_k».proof.Proof.Run
public import proofs.«01_k».proof.Proof.Pre
public import proofs.«01_k».proof.Proof.Equation
public import Idealize.ShloMosaic.Lib.Quiescent
public import Idealize.ShloMosaic.Lib.StableHlo.RunHlo
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference ends from any memory with its arguments unchanged and every counter at zero: it declares no semaphore. -/
theorem frame_reference : Cert.quiescent_ReferenceIdeal := fun m g _ =>
  θ_run_mono (Cert.ReferenceIdeal.Value.run m g) fun r h =>
    ⟨fun c => (h c).2, sem_eq_zero_of_no_sems rfl r.2⟩

/-- The idealized kernel program and the idealized reference, from arguments that agree and satisfy the precondition, end with
    the same result array, and both leave their arguments unchanged. -/
theorem algebraic : Cert.algebraic_KernelIdeal_ReferenceIdeal_pre_sentinels := fun m g m' g' hpre hagree => by
  refine ⟨fun c => Cert.KernelIdeal.Gen.W4 m g c (Proc.devRef .tc Cert.KernelIdeal.main_v11),
    Cert.KernelIdeal.Hand.run m g, ?_⟩
  refine θ_run_mono (Cert.ReferenceIdeal.Value.run m' g') fun r h c => ?_
  obtain ⟨hr, hargs⟩ := h c
  obtain ⟨a0, a1, a2, a3, a4⟩ := hagree c
  obtain ⟨hc, hw⟩ := Cert.Pre_sentinels.Hand.holds_at _ _ _ _ _ (hpre c)
  refine ⟨hr.trans ?_, hargs⟩
  exact Cert.Hand.equation m g c (StableHlo.launchContents m' c) _ _ a0 a1 a3 a4
    (fun k d => (congrArg (fun C : FVec Ideal Cert.KernelIdeal.S10x8 .f32 => 1000 ≤ C (ix2 k d)) a2).mpr (hc k d))
    (fun o k => (congrArg (fun W : FVec Ideal Cert.KernelIdeal.S768x4096 .f32 => ⊥ < W (ix2 o k) ∧ W (ix2 o k) < ⊤) a3).mpr
      (hw o k))

/-- Every claim: the frames, that the idealized kernel is the kernel's own text, and the equation of the results. -/
theorem claim : Cert.Claim := ⟨Cert.Kernel.Gen.facts, Cert.KernelIdeal.Gen.facts, Cert.ReferenceIdeal.Gen.facts,
  Cert.Pre_sentinels.Gen.facts,
  fun m g _ => Cert.Kernel.Gen.frame m g,
  fun m g _ => Cert.KernelIdeal.Gen.frame m g,
  fun m g _ => Cert.KernelIdeal.Gen.frame m g,
  frame_reference,
  fun m g _ => frame_reference m g trivial,
  trivial,
  algebraic⟩

end Cert.Proof

end
